-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512x64 : Shape := ⟨3, ![2048, 512, 64]⟩
abbrev S128x64 : Shape := ⟨2, ![128, 64]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩
abbrev S256x256 : Shape := ⟨2, ![256, 256]⟩
abbrev S2 : Shape := ⟨1, ![2]⟩
abbrev S64x128 : Shape := ⟨2, ![64, 128]⟩
abbrev S1x1 : Shape := ⟨2, ![1, 1]⟩
abbrev S2048x64x512 : Shape := ⟨3, ![2048, 64, 512]⟩
abbrev S512x1 : Shape := ⟨2, ![512, 1]⟩
abbrev S64x64x512 : Shape := ⟨3, ![64, 64, 512]⟩
abbrev S512x128 : Shape := ⟨2, ![512, 128]⟩
abbrev S1x64x512 : Shape := ⟨3, ![1, 64, 512]⟩
abbrev S64x512 : Shape := ⟨2, ![64, 512]⟩
abbrev S512x64 : Shape := ⟨2, ![512, 64]⟩
abbrev S512x256 : Shape := ⟨2, ![512, 256]⟩
abbrev S512 : Shape := ⟨1, ![512]⟩

abbrev nBuf : Space → Nat
  | .hbm => 33
  | .vmem => 8
  | .smem => 0
  | _ => 0

abbrev bufTy : (tb : Table) → Fin (tcTables nBuf tb) → BufTy
  | .hbm, ⟨0, _⟩ => ⟨S2048x512x64, .f32⟩
  | .hbm, ⟨1, _⟩ => ⟨S128x64, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S_, .f32⟩
  | .hbm, ⟨8, _⟩ => ⟨S256x256, .f32⟩
  | .hbm, ⟨9, _⟩ => ⟨S128x128, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S256x256, .f32⟩
  | .hbm, ⟨16, _⟩ => ⟨S64x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S256x256, .f32⟩
  | .hbm, ⟨23, _⟩ => ⟨S128, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S256x256, .f32⟩
  | .hbm, ⟨30, _⟩ => ⟨S1x1, .f32⟩
  | .hbm, ⟨31, _⟩ => ⟨S2048x64x512, .f32⟩
  | .hbm, ⟨32, _⟩ => ⟨S512x1, .f32⟩
  | .local _ .vmem, ⟨0, _⟩ => ⟨S64x64x512, .f32⟩
  | .local _ .vmem, ⟨1, _⟩ => ⟨S64x64x512, .f32⟩
  | .local _ .vmem, ⟨2, _⟩ => ⟨S256x256, .f32⟩
  | .local _ .vmem, ⟨3, _⟩ => ⟨S1x128, .f32⟩
  | .local _ .vmem, ⟨4, _⟩ => ⟨S1x1, .f32⟩
  | .local _ .vmem, ⟨5, _⟩ => ⟨S512x1, .f32⟩
  | .local _ .vmem, ⟨6, _⟩ => ⟨S512x128, .f32⟩
  | .local _ .vmem, ⟨7, _⟩ => ⟨S512x128, .f32⟩
  | _, _ => ⟨S2048x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![32], ![false]⟩

def k0_off1 (c0_i32_10 : BitVec 32) : Fin 3 → Nat :=
  let c0_i32_9 : BitVec 32 := 0#32
  let c64_i32 : BitVec 32 := 64#32
  let v12 : BitVec 32 := Scalar.muli c0_i32_9 c64_i32
  let v13 : BitVec 32 := Scalar.addi v12 c0_i32_10
  let c1_i32 : BitVec 32 := 1#32
  let v17 : BitVec 32 := Scalar.addi v13 c1_i32
  let c63_i32 : BitVec 32 := 63#32
  let v18 : BitVec 32 := Scalar.minsi v17 c63_i32
  let v19 : Index := Scalar.indexCast v18
  let c0_13 : Index := 0#32
  let c0_14 : Index := 0#32
  ![v19.toNat, 0, 0]
def k0_cond2 (i : grid0.Coords) : BitVec 1 :=
  let arg0 : BitVec 32 := BitVec.ofNat 32 (i 0).val
  let c31_i32_652 : BitVec 32 := 31#32
  let v1039 : BitVec 1 := Scalar.cmpi .eq arg0 c31_i32_652
  let v1040 : BitVec 32 := Scalar.extui v1039
  let c0_i32_653 : BitVec 32 := 0#32
  let v1041 : BitVec 1 := Scalar.cmpi .ne v1040 c0_i32_653
  v1041

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S2048x512x64 : Shape := ⟨3, ![2048, 512, 64]⟩
abbrev S128x64 : Shape := ⟨2, ![128, 64]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩
abbrev S512x128 : Shape := ⟨2, ![512, 128]⟩
abbrev S1x512x64 : Shape := ⟨3, ![1, 512, 64]⟩
abbrev S512x64 : Shape := ⟨2, ![512, 64]⟩
abbrev S64x128 : Shape := ⟨2, ![64, 128]⟩
abbrev S128x1 : Shape := ⟨2, ![128, 1]⟩
abbrev S512x1 : Shape := ⟨2, ![512, 1]⟩
abbrev S1x1 : Shape := ⟨2, ![1, 1]⟩

abbrev nBuf : Space → Nat
  | .hbm => 42
  | .vmem => 0
  | .smem => 0
  | _ => 0

abbrev bufTy : (tb : Table) → Fin (tcTables nBuf tb) → BufTy
  | .hbm, ⟨0, _⟩ => ⟨S2048x512x64, .f32⟩
  | .hbm, ⟨1, _⟩ => ⟨S128x64, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S_, .f32⟩
  | .hbm, ⟨8, _⟩ => ⟨S512x128, .f32⟩
  | .hbm, ⟨9, _⟩ => ⟨S_, .i32⟩
  | .hbm, ⟨10, _⟩ => ⟨S2048x512x64, .f32⟩
  | .hbm, ⟨11, _⟩ => ⟨S128x64, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S_, .i32⟩
  | .hbm, ⟨16, _⟩ => ⟨S512x128, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S1x512x64, .f32⟩
  | .hbm, ⟨22, _⟩ => ⟨S512x64, .f32⟩
  | .hbm, ⟨23, _⟩ => ⟨S64x128, .f32⟩
  | .hbm, ⟨24, _⟩ => ⟨S512x128, .f32⟩
  | .hbm, ⟨25, _⟩ => ⟨S1x128, .f32⟩
  | .hbm, ⟨26, _⟩ => ⟨S512x128, .f32⟩
  | .hbm, ⟨27, _⟩ => ⟨S512x128, .f32⟩
  | .hbm, ⟨28, _⟩ => ⟨S128x128, .f32⟩
  | .hbm, ⟨29, _⟩ => ⟨S512x128, .f32⟩
  | .hbm, ⟨30, _⟩ => ⟨S512x128, .f32⟩
  | .hbm, ⟨31, _⟩ => ⟨S1x128, .f32⟩
  | .hbm, ⟨32, _⟩ => ⟨S512x128, .f32⟩
  | .hbm, ⟨33, _⟩ => ⟨S512x128, .f32⟩
  | .hbm, ⟨34, _⟩ => ⟨S512x128, .f32⟩
  | .hbm, ⟨35, _⟩ => ⟨S_, .i32⟩
  | .hbm, ⟨36, _⟩ => ⟨S_, .i32⟩
  | .hbm, ⟨37, _⟩ => ⟨S128x1, .f32⟩
  | .hbm, ⟨38, _⟩ => ⟨S512x1, .f32⟩
  | .hbm, ⟨39, _⟩ => ⟨S1x1, .f32⟩
  | .hbm, ⟨40, _⟩ => ⟨S512x1, .f32⟩
  | .hbm, ⟨41, _⟩ => ⟨S512x1, .f32⟩
  | _, _ => ⟨S2048x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_while0c_c_6 : Ref sig .tc := ⟨.hbm, 17, rfl⟩
abbrev main_while0c_v7 : Ref sig .tc := ⟨.hbm, 18, rfl⟩
abbrev main_while0b_call0_c : Ref sig .tc := ⟨.hbm, 19, rfl⟩
abbrev main_while0b_call0_c_0 : Ref sig .tc := ⟨.hbm, 20, rfl⟩
abbrev main_while0b_call0_v0 : Ref sig .tc := ⟨.hbm, 21, rfl⟩
abbrev main_while0b_v7 : Ref sig .tc := ⟨.hbm, 22, rfl⟩
abbrev main_while0b_v8 : Ref sig .tc := ⟨.hbm, 23, rfl⟩
abbrev main_while0b_v9 : Ref sig .tc := ⟨.hbm, 24, rfl⟩
abbrev main_while0b_v10 : Ref sig .tc := ⟨.hbm, 25, rfl⟩
abbrev main_while0b_v11 : Ref sig .tc := ⟨.hbm, 26, rfl⟩
abbrev main_while0b_v12 : Ref sig .tc := ⟨.hbm, 27, rfl⟩
abbrev main_while0b_v13 : Ref sig .tc := ⟨.hbm, 28, rfl⟩
abbrev main_while0b_v14 : Ref sig .tc := ⟨.hbm, 29, rfl⟩
abbrev main_while0b_v15 : Ref sig .tc := ⟨.hbm, 30, rfl⟩
abbrev main_while0b_v16 : Ref sig .tc := ⟨.hbm, 31, rfl⟩
abbrev main_while0b_v17 : Ref sig .tc := ⟨.hbm, 32, rfl⟩
abbrev main_while0b_v18 : Ref sig .tc := ⟨.hbm, 33, rfl⟩
abbrev main_while0b_v19 : Ref sig .tc := ⟨.hbm, 34, rfl⟩
abbrev main_while0b_c_6 : Ref sig .tc := ⟨.hbm, 35, rfl⟩
abbrev main_while0b_v20 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩

abbrev nD : Nat := 1
abbrev τ : Topo := Topo.v7x

variable {F : FTy → Type} [FloatOps F]

abbrev main_while0_count : Scf.Loop 32 := ⟨0#32, 2048#32, 1#32⟩
-- ==== Proof.Spec.lean ====
/-
  THE RECURRENCE over the extended reals: the cell, the hidden state after `t` steps, the projected result. Both programs are shown to compute it.
-/
module

public import Idealize.ShloMosaic.Lib.Pointwise

@[expose] public section

set_option maxRecDepth 16384

noncomputable section

namespace Cert.Rnn

open Idealize Idealize.ShloMosaic

/-- The recurrent cell at an entry: `x` the step's inputs, `h` the hidden state before it. -/
def cell (Wih : FVec Ideal ⟨2, ![128, 64]⟩ .f32) (Whh : FVec Ideal ⟨2, ![128, 128]⟩ .f32) (bi bh : FVec Ideal ⟨1, ![128]⟩ .f32) (x : Fin 512 → Fin 64 → EReal) (h : Fin 512 → Fin 128 → EReal)
    (r : Fin 512) (j : Fin 128) : EReal :=
  Ideal.tanh (((∑ k : Fin 64, x r k * Wih (ix2 j k) + bi (ix1 j)) + ∑ k : Fin 128, h r k * Whh (ix2 j k)) + bh (ix1 j))

/-- The recurrence from a zero state: `hid t` is the hidden state after `t` steps. -/
def hid (xs : FVec Ideal ⟨3, ![2048, 512, 64]⟩ .f32) (Wih : FVec Ideal ⟨2, ![128, 64]⟩ .f32) (Whh : FVec Ideal ⟨2, ![128, 128]⟩ .f32) (bi bh : FVec Ideal ⟨1, ![128]⟩ .f32) :
    ℕ → Fin 512 → Fin 128 → EReal
  | 0 => fun _ _ => 0
  | t + 1 => cell Wih Whh bi bh (fun r k => xs (ix3 ⟨t % 2048, by omega⟩ r k)) (hid xs Wih Whh bi bh t)

/-- The result: the last hidden state against the output weights, plus the output bias. -/
def result (xs : FVec Ideal ⟨3, ![2048, 512, 64]⟩ .f32) (Wih : FVec Ideal ⟨2, ![128, 64]⟩ .f32) (Whh : FVec Ideal ⟨2, ![128, 128]⟩ .f32) (bi bh : FVec Ideal ⟨1, ![128]⟩ .f32)
    (wout : FVec Ideal ⟨2, ![1, 128]⟩ .f32) (bout : FVec Ideal ⟨1, ![1]⟩ .f32) : FVec Ideal ⟨2, ![512, 1]⟩ .f32 :=
  fun y => ∑ k : Fin 128, hid xs Wih Whh bi bh 2048 (y 0) k * wout (ix2 0 k) + bout (ix1 0)

end Cert.Rnn

end
-- ==== Proof.Scatter.lean ====
/-
  A WINDOW SET AT A PAIR OF INDEX WORDS, read at an entry: `x.at[i : i + A, j : j + B].set(u)` and part of a row, `x.at[i, j : j + B].set(u)`, at any extents.
-/
module

public import Idealize.ShloMosaic.Lib.Routing.OpsOne

@[expose] public section

namespace Cert.Scatter

open Idealize.ShloMosaic Idealize.ShloMosaic.Routing Idealize.ShloMosaic.ValueIdx

/-- `x.at[i : i + A, j : j + B].set(u)`: inside the window the update, elsewhere the operand. -/
theorem scatter_block {α : Type} {R C A B w : ℕ} (d : ScatterDims (shape2 R C) (shape1 2) (shape2 A B)) (hsd : d.scatterDimsToOperandDims = [0, 1])
    (hivd : d.indexVectorDim = 0) (hw0 : ∀ (p : Fin A) (q : Fin B), d.window (ix2 p q) 0 = p.val) (hw1 : ∀ (p : Fin A) (q : Fin B), d.window (ix2 p q) 1 = q.val)
    (x0 : (shape2 R C).Idx → α) (idx : IVec (shape1 2) w) (upd : (shape2 A B).Idx → α) (i j : ℕ)
    (hi : (idx (ix1 (0 : Fin 2))).toInt = (i : Int)) (hj : (idx (ix1 (1 : Fin 2))).toInt = (j : Int)) (r : Fin R) (c : Fin C) :
    Host.scatter d (fun _ b => b) x0 idx upd (ix2 r c)
      = if h : (i ≤ r.val ∧ r.val < i + A) ∧ (j ≤ c.val ∧ c.val < j + B) then upd (ix2 ⟨r.val - i, by omega⟩ ⟨c.val - j, by omega⟩) else x0 (ix2 r c) := by
  have lands : ∀ (p : Fin A) (q : Fin B), d.resultIdx? (ix2 p q) idx = some (ix2 r c) ↔ i + p.val = r.val ∧ j + q.val = c.val := fun p q => by
    rw [resultIdx?_ix2, start_pair d hsd hivd, start_pair d hsd hivd, hw0, hw1, hi, hj]
    omega
  by_cases h : (i ≤ r.val ∧ r.val < i + A) ∧ (j ≤ c.val ∧ c.val < j + B)
  · rw [dif_pos h]
    refine scatter_set_hit d x0 idx upd _ _ (fun k hk => ?_) (ix2 ⟨r.val - i, by omega⟩ ⟨c.val - j, by omega⟩) ((lands _ _).2 ⟨?_, ?_⟩)
    · obtain ⟨p, q, rfl⟩ : ∃ (p : Fin A) (q : Fin B), k = ix2 p q := ⟨k 0, k 1, eq_ix2 k⟩
      obtain ⟨e0, e1⟩ := (lands p q).1 hk
      congr 2 <;> apply Fin.ext <;> dsimp only <;> omega
    · dsimp only; omega
    · dsimp only; omega
  · rw [dif_neg h]
    refine scatter_set_miss d x0 idx upd _ fun k hk => h ?_
    obtain ⟨p, q, rfl⟩ : ∃ (p : Fin A) (q : Fin B), k = ix2 p q := ⟨k 0, k 1, eq_ix2 k⟩
    obtain ⟨e0, e1⟩ := (lands p q).1 hk
    have := p.isLt
    have := q.isLt
    omega

/-- `x.at[i, j : j + B].set(u)`: in row `i`, from column `j`, the update, elsewhere the operand. -/
theorem scatter_row {α : Type} {R C B w : ℕ} (d : ScatterDims (shape2 R C) (shape1 2) (shape1 B)) (hsd : d.scatterDimsToOperandDims = [0, 1])
    (hivd : d.indexVectorDim = 0) (hw0 : ∀ q : Fin B, d.window (ix1 q) 0 = 0) (hw1 : ∀ q : Fin B, d.window (ix1 q) 1 = q.val)
    (x0 : (shape2 R C).Idx → α) (idx : IVec (shape1 2) w) (upd : (shape1 B).Idx → α) (i j : ℕ)
    (hi : (idx (ix1 (0 : Fin 2))).toInt = (i : Int)) (hj : (idx (ix1 (1 : Fin 2))).toInt = (j : Int)) (r : Fin R) (c : Fin C) :
    Host.scatter d (fun _ b => b) x0 idx upd (ix2 r c)
      = if h : r.val = i ∧ (j ≤ c.val ∧ c.val < j + B) then upd (ix1 ⟨c.val - j, by omega⟩) else x0 (ix2 r c) := by
  have lands : ∀ q : Fin B, d.resultIdx? (ix1 q) idx = some (ix2 r c) ↔ r.val = i ∧ j + q.val = c.val := fun q => by
    rw [resultIdx?_ix2, start_pair d hsd hivd, start_pair d hsd hivd, hw0, hw1, hi, hj]
    omega
  by_cases h : r.val = i ∧ (j ≤ c.val ∧ c.val < j + B)
  · rw [dif_pos h]
    refine scatter_set_hit d x0 idx upd _ _ (fun k hk => ?_) (ix1 ⟨c.val - j, by omega⟩) ((lands _).2 ⟨h.1, ?_⟩)
    · obtain ⟨q, rfl⟩ : ∃ q : Fin B, k = ix1 q := ⟨k 0, eq_ix1 k⟩
      have e1 := ((lands q).1 hk).2
      congr 2; apply Fin.ext; dsimp only; omega
    · dsimp only; omega
  · rw [dif_neg h]
    refine scatter_set_miss d x0 idx upd _ fun k hk => h ?_
    obtain ⟨q, rfl⟩ : ∃ q : Fin B, k = ix1 q := ⟨k 0, eq_ix1 k⟩
    obtain ⟨e0, e1⟩ := (lands q).1 hk
    have := q.isLt
    omega

end Cert.Scatter
-- ==== Proof.Pack.lean ====
/-
  THE PACKED WEIGHT MATRIX, which the host builds before the launch: `W_hhᵀ` in rows 0..127, `W_ihᵀ` in rows 128..191, the sum of the two biases in row 255, zeros elsewhere, all in columns 0..127.
-/
module

public import proofs.«01_k».proof.Proof.Gen.KernelIdeal.Value
public import proofs.«01_k».proof.Proof.Scatter
public import Idealize.ShloMosaic.Lib.Pointwise
public import Idealize.ShloMosaic.Lib.Pointwise.IndexBridge

@[expose] public section

set_option maxRecDepth 16384

noncomputable section

namespace Cert.KernelIdeal.Pack

open Idealize Idealize.ShloMosaic
open Cert.KernelIdeal Cert.KernelIdeal.Gen

variable {F : FTy → Type} [FloatOps F]

/-- The pair of index words `(a, b)`. -/
def pair (a b : BitVec 32) : IVec S2 32 :=
  concatenate S2 0 [⟨S1, broadcastInDim S1 ![] bcast_S_S1 (constantI S_ 32 a)⟩, ⟨S1, broadcastInDim S1 ![] bcast_S_S1 (constantI S_ 32 b)⟩]
    concatenates_S1_S1_S2_d0

/-- The packed matrix of the two weight matrices and the two biases. -/
def packed (Wih : Vec F S128x64 .f32) (Whh : Vec F S128x128 .f32) (bi bh : Vec F S128 .f32) : Vec F S256x256 .f32 :=
  Host.scatter scatter_S256x256_S2_S128_0_0_01_0 (fun _ b => b)
    (Host.scatter scatter_S256x256_S2_S64x128_01_n_01_0 (fun _ b => b)
      (Host.scatter scatter_S256x256_S2_S128x128_01_n_01_0 (fun _ b => b)
        (broadcastInDim S256x256 ![] bcast_S_S256x256 (constant S_ .f32 0x00000000#32))
        (pair 0#32 0#32) (transpose S128x128 [1, 0] Whh transposes_S128x128_S128x128_1_0))
      (pair 128#32 0#32) (transpose S64x128 [1, 0] Wih transposes_S128x64_S64x128_1_0))
    (pair 255#32 0#32) (addf bi bh)

/-- The first of the pair. -/
theorem pair_zero (a b : BitVec 32) : pair a b (ValueIdx.ix1 (0 : Fin 2)) = a := by
  rw [← ix1_eq_valueIdx]; pointwise [pair]

/-- The second of the pair. -/
theorem pair_one (a b : BitVec 32) : pair a b (ValueIdx.ix1 (1 : Fin 2)) = b := by
  rw [← ix1_eq_valueIdx]; pointwise [pair]

/-- An entry of the packed matrix. -/
theorem packed_apply (Wih : Vec Ideal S128x64 .f32) (Whh : Vec Ideal S128x128 .f32) (bi bh : Vec Ideal S128 .f32) (r c : Fin 256) :
    packed Wih Whh bi bh (ix2 r c)
      = if hc : c.val < 128 then
          if r.val = 255 then bi (ix1 ⟨c.val, hc⟩) + bh (ix1 ⟨c.val, hc⟩)
          else if h : 128 ≤ r.val ∧ r.val < 192 then Wih (ix2 ⟨c.val, hc⟩ ⟨r.val - 128, by omega⟩)
          else if h : r.val < 128 then Whh (ix2 ⟨c.val, hc⟩ ⟨r.val, h⟩) else 0
        else 0 := by
  unfold packed
  rw [ix2_eq_valueIdx,
    Scatter.scatter_row _ rfl rfl (fun _ => rfl) (fun _ => rfl) _ _ _ 255 0 (by rw [pair_zero]; rfl) (by rw [pair_one]; rfl),
    Scatter.scatter_block _ rfl rfl (fun _ _ => rfl) (fun _ _ => rfl) _ _ _ 128 0 (by rw [pair_zero]; rfl) (by rw [pair_one]; rfl),
    Scatter.scatter_block _ rfl rfl (fun _ _ => rfl) (fun _ _ => rfl) _ _ _ 0 0 (by rw [pair_zero]; rfl) (by rw [pair_one]; rfl)]
  simp only [← ix2_eq_valueIdx, ← ix1_eq_valueIdx]
  by_cases hc : c.val < 128
  · rw [dif_pos hc]
    by_cases h0 : r.val = 255
    · rw [dif_pos ⟨h0, by omega⟩, if_pos h0]; rfl
    · rw [dif_neg (fun h => h0 h.1), if_neg h0]
      by_cases h1 : 128 ≤ r.val ∧ r.val < 192
      · rw [dif_pos ⟨by omega, by omega⟩, dif_pos h1]; pointwise
      · rw [dif_neg (by omega), dif_neg h1]
        by_cases h2 : r.val < 128
        · rw [dif_pos ⟨by omega, by omega⟩, dif_pos h2]; pointwise
        · rw [dif_neg (by omega), dif_neg h2]; pointwise
  · rw [dif_neg (by omega), dif_neg (by omega), dif_neg (by omega), dif_neg hc]; pointwise

end Cert.KernelIdeal.Pack

end
-- ==== Proof.Block.lean ====
/-
  WHAT ONE GRID POINT COMPUTES, as a recursion over its 64 steps. The kernel's body is 64 unrolled steps; each stages the next slab of inputs and passes the hidden state
  through one multiply. Here the chain of stores into the staging scratch is one list by recursion (`stores`), the chain of hidden states is one recursion (`hidden`), and the
  generated runs of the three cases are shown to be these two, so that everything later is an induction on the number of steps.
-/
module

public import proofs.«01_k».proof.Proof.Gen.KernelIdeal.Value
public import Idealize.ShloMosaic.Lib.VecWindow

@[expose] public section

set_option maxRecDepth 16384

noncomputable section

namespace Cert.KernelIdeal.Block

open Idealize.ShloMosaic Idealize.ShloMosaic.TcCoe
open Cert.KernelIdeal Cert.KernelIdeal.Gen

variable {F : FTy → Type} [FloatOps F]

/-- Slab `n` of the block of inputs lies inside it. -/
theorem slab_inb (n : ℕ) : ∀ a : Fin 3, (![n % 64, 0, 0] : Fin 3 → ℕ) a + S1x64x512.size a ≤ S64x64x512.size a := by
  intro a
  match a with
  | ⟨0, _⟩ => show n % 64 + 1 ≤ 64; omega
  | ⟨1, _⟩ => exact le_refl 64
  | ⟨2, _⟩ => exact le_refl 512

/-- The inputs of step `n` as the body stages them: slab `n` of the block loaded, with the batch on the rows. -/
def loaded (arg1 : Memref sig .tc .vmem S64x64x512 .f32) (harg1 : arg1.IsWhole) (x0 : Vec F S64x64x512 .f32) (n : ℕ) : FVec F S512x64 .f32 :=
  k0_pay5 (View.readAt (Elt F) arg1.view (Rect.unit (s := S64x64x512) ![n % 64, 0, 0] S1x64x512.size (slab_inb n)).toLoadRect (harg1.unread x0))

/-- The stores into the staging scratch after `n` slabs, newest first, over the stores `base` before them. -/
def stores (X : ℕ → FVec F S512x64 .f32) (base : List (View.Piece (Elt F) S512x128 .f32)) : ℕ → List (View.Piece (Elt F) S512x128 .f32)
  | 0 => base
  | n + 1 => ⟨Rect.unit ![0, 0] S512x64.size inb_S512x128_S512x64_0_0, X n⟩ :: stores X base n

/-- One step of the body: the hidden state beside the staged inputs, multiplied by the packed weights, its first 128 columns through `tanh`. -/
def step (W : FVec F S256x256 .f32) (h x : FVec F S512x128 .f32) : FVec F S512x128 .f32 :=
  tanh (extractStridedSlice S512x128 ![0, 0]
    (matmul dot_S512x256_S256x256_S512x256_1_0_0_1_n_n none
      (concatenate S512x256 1 [⟨S512x128, h⟩, ⟨S512x128, x⟩] concatenates_S512x128_S512x128_S512x256_d1) W (constant S512x256 .f32 0x00000000#32))
    slices_S512x256_o0_0_S512x128)

/-- The hidden state after `n` steps from `h`, step `k` on staged inputs `X k`. -/
def hidden (W : FVec F S256x256 .f32) (X : ℕ → FVec F S512x128 .f32) (h : FVec F S512x128 .f32) : ℕ → FVec F S512x128 .f32
  | 0 => h
  | n + 1 => step W (hidden W X h n) (X n)

/-- The staging scratch as step `n` loads it: what the stores up to slab `n` leave over contents `g`. -/
def staged (arg6 : Memref sig .tc .vmem S512x128 .f32) (g : arg6.view.ty.Contents (Elt F)) (X : ℕ → FVec F S512x64 .f32)
    (base : List (View.Piece (Elt F) S512x128 .f32)) (n : ℕ) : FVec F S512x128 .f32 :=
  View.readAt (Elt F) arg6.view (Rect.unit ![0, 0] S512x128.size inb_S512x128_S512x128_0_0).toLoadRect (arg6.view.writes (Elt F) g (stores X base (n + 1)))

/-- The two stores by which point 0 prepares the staging scratch, newest first: ones in column 127 over zeros. -/
def prepared : List (View.Piece (Elt F) S512x128 .f32) :=
  [⟨Rect.unit ![0, 127] S512x1.size inb_S512x128_S512x1_0_127, k0_pay3⟩, ⟨Rect.unit ![0, 0] S512x128.size inb_S512x128_S512x128_0_0, k0_pay2⟩]

/-- Slab `n` of a block of inputs, with the batch on the rows: what the body stages for step `n`. -/
def slab (x0 : Vec F S64x64x512 .f32) (n : ℕ) : FVec F S512x64 .f32 :=
  k0_pay5 (VecWindow.window (s := S64x64x512) x0 ![n % 64, 0, 0] S1x64x512.size (slab_inb n))

/-- `x` put over the first 64 columns of the staging scratch `g`. -/
def over (g : FVec F S512x128 .f32) (x : FVec F S512x64 .f32) : FVec F S512x128 .f32 :=
  VecWindow.put (s := S512x128) g ![0, 0] S512x64.size x

/-- The staging scratch as point 0 prepares it: ones in column 127 over zeros. -/
def base0 : FVec F S512x128 .f32 :=
  VecWindow.put (s := S512x128) k0_pay2 ![0, 127] S512x1.size k0_pay3

/-- What the body stages for step `n` is slab `n` of the block its input buffer holds. -/
theorem loaded_eq (arg1 : Memref sig .tc .vmem S64x64x512 .f32) (harg1 : arg1.IsWhole) (x0 : Vec F S64x64x512 .f32) (n : ℕ) :
    loaded arg1 harg1 x0 n = slab x0 n := by
  unfold loaded slab
  rw [View.readAt_unit _ _ (slab_inb n) rfl (slab_inb n), harg1.read_unread]

/-- After the stores up to slab `n` the staging scratch holds slab `n` over what it held before them: each slab hides the one before. -/
theorem read_stores (v : View sig .tc .vmem S512x128 .f32) (g : v.ty.Contents (Elt F)) (X : ℕ → FVec F S512x64 .f32)
    (base : List (View.Piece (Elt F) S512x128 .f32)) (n : ℕ) :
    v.read (Elt F) (v.writes (Elt F) g (stores X base (n + 1))) = over (v.read (Elt F) (v.writes (Elt F) g base)) (X n) := by
  induction n with
  | zero => exact View.read_writes_cons_put v g _ _ _ rfl
  | succ n ih =>
    refine (View.read_writes_cons_put v g _ _ _ rfl).trans ?_
    refine (congrArg (fun b => VecWindow.put (s := S512x128) b ![0, 0] S512x64.size (X (n + 1))) ih).trans ?_
    exact VecWindow.put_put_same _ _ _ _ _

/-- One more store of a slab over these leaves that slab over what the staging scratch held before them. -/
theorem read_last (v : View sig .tc .vmem S512x128 .f32) (g : v.ty.Contents (Elt F)) (X : ℕ → FVec F S512x64 .f32)
    (base : List (View.Piece (Elt F) S512x128 .f32)) (n : ℕ) (w : FVec F S512x64 .f32) :
    v.read (Elt F) (v.writes (Elt F) g (⟨Rect.unit ![0, 0] S512x64.size inb_S512x128_S512x64_0_0, w⟩ :: stores X base (n + 1)))
      = over (v.read (Elt F) (v.writes (Elt F) g base)) w := by
  refine (View.read_writes_cons_put v g _ _ _ rfl).trans ?_
  refine (congrArg (fun b => VecWindow.put (s := S512x128) b ![0, 0] S512x64.size w) (read_stores v g X base n)).trans ?_
  exact VecWindow.put_put_same _ _ _ _ _

/-- Step `n` loads slab `n` over what the staging scratch held before the stores. -/
theorem staged_eq (arg6 : Memref sig .tc .vmem S512x128 .f32) (g : arg6.view.ty.Contents (Elt F)) (X : ℕ → FVec F S512x64 .f32)
    (base : List (View.Piece (Elt F) S512x128 .f32)) (n : ℕ) :
    staged arg6 g X base n = over (arg6.view.read (Elt F) (arg6.view.writes (Elt F) g base)) (X n) :=
  (View.readAt_full _ _ _).trans (read_stores arg6.view g X base n)

/-- The two stores of point 0 leave `base0`, whatever the scratch held. -/
theorem read_prepared (v : View sig .tc .vmem S512x128 .f32) (g : v.ty.Contents (Elt F)) :
    v.read (Elt F) (v.writes (Elt F) g prepared) = base0 := by
  refine (View.read_writes_cons_put v g _ _ _ rfl).trans ?_
  exact congrArg (fun b => VecWindow.put (s := S512x128) b ![0, 127] S512x1.size k0_pay3) (View.read_writes_full v g _ _ _)

variable (c : Dev nD) (i : grid0.Coords) (arg1 : Memref sig .tc .vmem S64x64x512 .f32) (harg1 : arg1.IsWhole) (arg2 : Memref sig .tc .vmem S256x256 .f32) (harg2 : arg2.IsWhole) (arg3 : Memref sig .tc .vmem S1x128 .f32) (harg3 : arg3.IsWhole) (arg4 : Memref sig .tc .vmem S1x1 .f32) (harg4 : arg4.IsWhole) (arg5 : Memref sig .tc .vmem S512x1 .f32) (harg5 : arg5.IsWhole)
  (arg6 : Memref sig .tc .vmem S512x128 .f32) (harg6 : arg6.IsWhole) (arg7 : Memref sig .tc .vmem S512x128 .f32) (harg7 : arg7.IsWhole)
  (x0 : Vec F S64x64x512 .f32) (x1 : Vec F S256x256 .f32) (x2 : Vec F S1x128 .f32) (x3 : Vec F S1x1 .f32) (xs0 xs1 : Vec F S512x128 .f32)

/-! ## The generated runs are these recursions -/

/-- The stores into the staging scratch at point 0. -/
theorem stores_A : kernelRun0_A.sl.HS0_66 c arg1 harg1 x0 = stores (loaded arg1 harg1 x0) prepared 64 := rfl

/-- The same at a middle point. -/
theorem stores_B : kernelRun0_B.sl.HS0_64 c arg1 harg1 x0 = stores (loaded arg1 harg1 x0) [] 64 := rfl

/-- The same at the last point. -/
theorem stores_C : kernelRun0_C.sl.HS0_64 c arg1 harg1 x0 = stores (loaded arg1 harg1 x0) [] 64 := rfl

set_option maxHeartbeats 400000 in
/-- The hidden state after the 64 steps of point 0. -/
theorem hidden_A : kernelRun0_A.sl.r_39 c arg1 harg1 arg2 harg2 arg6 arg7 x0 x1
    = hidden (kernelRun0_A.sl.r c arg2 harg2 x1) (staged arg6 arg6.view.junk (loaded arg1 harg1 x0) prepared) (kernelRun0_A.sl.v11 c arg7) 64 := rfl

set_option maxHeartbeats 400000 in
/-- The same at a middle point. -/
theorem hidden_B : kernelRun0_B.sl.r_39 c arg1 harg1 arg2 harg2 arg6 harg6 arg7 harg7 x0 x1 xs0 xs1
    = hidden (kernelRun0_B.sl.r c arg2 harg2 x1) (staged arg6 (harg6.unread xs0) (loaded arg1 harg1 x0) [])
        (View.readAt (Elt F) arg7.view (Rect.unit ![0, 0] S512x128.size inb_S512x128_S512x128_0_0).toLoadRect (harg7.unread xs1)) 64 := rfl

set_option maxHeartbeats 400000 in
/-- The same at the last point. -/
theorem hidden_C : kernelRun0_C.sl.r_39 c arg1 harg1 arg2 harg2 arg6 harg6 arg7 harg7 x0 x1 xs0 xs1
    = hidden (kernelRun0_C.sl.r c arg2 harg2 x1) (staged arg6 (harg6.unread xs0) (loaded arg1 harg1 x0) [])
        (View.readAt (Elt F) arg7.view (Rect.unit ![0, 0] S512x128.size inb_S512x128_S512x128_0_0).toLoadRect (harg7.unread xs1)) 64 := rfl

/-! ## What a point leaves, of the blocks it is given -/

/-- The recursion depends on the staged inputs only through their values. -/
theorem hidden_congr {W W' : FVec F S256x256 .f32} {X X' : ℕ → FVec F S512x128 .f32} {h h' : FVec F S512x128 .f32} (hW : W = W') (hX : ∀ n, X n = X' n) (hh : h = h')
    (n : ℕ) : hidden W X h n = hidden W' X' h' n := by
  subst hW; subst hh; obtain rfl : X = X' := funext hX; rfl

/-- The packed weights as the body loads them. -/
theorem weights_eq : k0_pay6 (View.readAt (Elt F) arg2.view (Rect.unit ![0, 0] S256x256.size inb_S256x256_S256x256_0_0).toLoadRect (harg2.unread x1)) = x1 := by
  rw [View.readAt_full, harg2.read_unread]
  exact shapeCast_self _ _

/-- The hidden state after a point whose scratches held `g` and `h`. -/
theorem steps_eq (h : FVec F S512x128 .f32) (g : FVec F S512x128 .f32) (f : arg6.view.ty.Contents (Elt F)) (base : List (View.Piece (Elt F) S512x128 .f32))
    (hg : arg6.view.read (Elt F) (arg6.view.writes (Elt F) f base) = g) (h' : FVec F S512x128 .f32) (hh : h' = h) :
    hidden (k0_pay6 (View.readAt (Elt F) arg2.view (Rect.unit ![0, 0] S256x256.size inb_S256x256_S256x256_0_0).toLoadRect (harg2.unread x1)))
        (staged arg6 f (loaded arg1 harg1 x0) base) h' 64
      = hidden x1 (fun n => over g (slab x0 n)) h 64 :=
  hidden_congr (weights_eq arg2 harg2 x1) (fun n => by rw [staged_eq, hg, loaded_eq]) hh 64

variable (a0 : cond0_0 i) (b0 : ¬cond0_0 i) (a1 : ¬cond0_1 i) (b1 : cond0_1 i)

/-- What point 0 leaves in the hidden state's scratch. -/
theorem sout_A_1 : sout0_A_1 c i arg1 harg1 arg2 harg2 arg3 harg3 arg4 harg4 arg5 harg5 arg6 harg6 arg7 harg7 a0 a1 x0 x1 x2 x3
    = hidden x1 (fun n => over base0 (slab x0 n)) k0_pay4 64 := by
  unfold sout0_A_1 kernelRun0_A
  refine (View.read_writes_full _ _ _ _ _).trans ((shapeCast_self _ _).trans ?_)
  refine (hidden_A c arg1 harg1 arg2 harg2 arg6 arg7 x0 x1).trans ?_
  exact steps_eq arg1 harg1 arg2 harg2 arg6 x0 x1 k0_pay4 base0 _ prepared (read_prepared _ _) _ (View.readCov_full _ _ _ _ _)

/-- What point 0 leaves in the staging scratch. -/
theorem sout_A_0 : sout0_A_0 c i arg1 harg1 arg2 harg2 arg3 harg3 arg4 harg4 arg5 harg5 arg6 harg6 arg7 harg7 a0 a1 x0 x1 x2 x3 = over base0 (slab x0 63) := by
  unfold sout0_A_0 kernelRun0_A
  refine (read_last VS0_0 VS0_0.junk (loaded arg1 harg1 x0) prepared 63 (loaded arg1 harg1 x0 63)).trans ?_
  rw [read_prepared, loaded_eq]

/-- What a middle point leaves in the hidden state's scratch. -/
theorem sout_B_1 : sout0_B_1 c i arg1 harg1 arg2 harg2 arg3 harg3 arg4 harg4 arg5 harg5 arg6 harg6 arg7 harg7 b0 a1 x0 x1 x2 x3 xs0 xs1
    = hidden x1 (fun n => over xs0 (slab x0 n)) xs1 64 := by
  unfold sout0_B_1 kernelRun0_B
  refine (View.read_writes_full _ _ _ _ _).trans ((shapeCast_self _ _).trans ?_)
  refine (hidden_B c arg1 harg1 arg2 harg2 arg6 harg6 arg7 harg7 x0 x1 xs0 xs1).trans ?_
  exact steps_eq arg1 harg1 arg2 harg2 arg6 x0 x1 xs1 xs0 _ [] (harg6.read_unread xs0) _ ((View.readAt_full _ _ _).trans (harg7.read_unread xs1))

/-- What a middle point leaves in the staging scratch. -/
theorem sout_B_0 : sout0_B_0 c i arg1 harg1 arg2 harg2 arg3 harg3 arg4 harg4 arg5 harg5 arg6 harg6 arg7 harg7 b0 a1 x0 x1 x2 x3 xs0 xs1 = over xs0 (slab x0 63) := by
  unfold sout0_B_0 kernelRun0_B
  refine (read_last arg6.view (harg6.unread xs0) (loaded arg1 harg1 x0) [] 63 (loaded arg1 harg1 x0 63)).trans ?_
  rw [loaded_eq]
  exact congrArg (fun g => over g (slab x0 63)) (harg6.read_unread xs0)

/-- What the last point leaves in the output's block. -/
theorem out_C_4 : out0_C_4 c i arg1 harg1 arg2 harg2 arg3 harg3 arg4 harg4 arg5 harg5 arg6 harg6 arg7 harg7 b0 b1 x0 x1 x2 x3 xs0 xs1
    = k0_pay1 (hidden x1 (fun n => over xs0 (slab x0 n)) xs1 64) x2 x3 := by
  unfold out0_C_4 kernelRun0_C
  refine (View.read_writes_full _ _ _ _ _).trans ?_
  refine (congrArg (fun h => k0_pay1 h _ _) ((hidden_C c arg1 harg1 arg2 harg2 arg6 harg6 arg7 harg7 x0 x1 xs0 xs1).trans
    (steps_eq arg1 harg1 arg2 harg2 arg6 x0 x1 xs1 xs0 _ [] (harg6.read_unread xs0) _ ((View.readAt_full _ _ _).trans (harg7.read_unread xs1))))).trans ?_
  rw [View.readAt_full, View.readAt_full, harg3.read_unread, harg4.read_unread]

end Cert.KernelIdeal.Block
-- ==== Proof.Cell.lean ====
/-
  THE KERNEL'S STEP at an entry is the recurrent cell.
-/
module

public import proofs.«01_k».proof.Proof.Spec
public import proofs.«01_k».proof.Proof.Pack
public import proofs.«01_k».proof.Proof.Block

@[expose] public section

set_option maxRecDepth 16384

noncomputable section

namespace Cert.KernelIdeal.Cell

open Idealize Idealize.ShloMosaic
open Cert.Rnn Cert.KernelIdeal Cert.KernelIdeal.Gen Cert.KernelIdeal.Pack

/-- A staged step: the inputs in columns 0..63, a one in column 127, zeros between. -/
def Staged (x : FVec Ideal S512x128 .f32) (X : Fin 512 → Fin 64 → EReal) : Prop :=
  ∀ (r : Fin 512) (k : Fin 128), x (ix2 r k) = if hk : k.val < 64 then X r ⟨k.val, hk⟩ else if k.val = 127 then 1 else 0

/-- A sum over 128 columns of which the middle ones vanish: the first 64 and the last. -/
theorem sum_ends {M : Type} [AddCommMonoid M] (f : Fin 64 → M) (b : M) (g : Fin 128 → M)
    (hf : ∀ k : Fin 64, g ⟨k.val, by omega⟩ = f k) (hz : ∀ k : Fin 128, 64 ≤ k.val → k.val ≠ 127 → g k = 0) (hb : g ⟨127, by omega⟩ = b) :
    ∑ k, g k = ∑ k, f k + b := by
  refine (Fin.sum_univ_add (a := 64) (b := 64) g).trans ?_
  refine congrArg₂ (· + ·) (Finset.sum_congr rfl fun k _ => hf k) ?_
  refine (Finset.sum_eq_single (63 : Fin 64) (fun k _ hk => hz _ ?_ ?_) (fun h => absurd (Finset.mem_univ _) h)).trans hb
  · show 64 ≤ 64 + k.val; omega
  · show 64 + k.val ≠ 127
    have : k.val ≠ 63 := fun h => hk (Fin.ext h)
    omega

/-- The kernel's step at an entry: the contraction over the concatenated axis is one over the hidden state and one over the staged input. -/
theorem step_split (W : Vec Ideal S256x256 .f32) (h x : FVec Ideal S512x128 .f32) (r : Fin 512) (j : Fin 128) :
    Block.step (F := Ideal) W h x (ix2 r j)
      = Ideal.tanh (∑ k : Fin 128, h (ix2 r k) * W (ix2 ⟨k.val, by omega⟩ ⟨j.val, by omega⟩)
          + ∑ k : Fin 128, x (ix2 r k) * W (ix2 ⟨128 + k.val, by omega⟩ ⟨j.val, by omega⟩)) := by
  pointwise [Block.step]

/-- Rows 0..127 of the packed weights are `W_hhᵀ`. -/
theorem packed_hidden (Wih : Vec Ideal S128x64 .f32) (Whh : Vec Ideal S128x128 .f32) (bi bh : Vec Ideal S128 .f32) (k j : Fin 128) :
    packed Wih Whh bi bh (ix2 ⟨k.val, by omega⟩ ⟨j.val, by omega⟩) = Whh (ix2 j k) := by
  rw [packed_apply, dif_pos j.isLt, if_neg (by dsimp only; omega), dif_neg (by dsimp only; omega), dif_pos k.isLt]

/-- Rows 128..191 of the packed weights are `W_ihᵀ`. -/
theorem packed_input (Wih : Vec Ideal S128x64 .f32) (Whh : Vec Ideal S128x128 .f32) (bi bh : Vec Ideal S128 .f32) (k : Fin 64) (j : Fin 128) :
    packed Wih Whh bi bh (ix2 ⟨128 + k.val, by omega⟩ ⟨j.val, by omega⟩) = Wih (ix2 j k) := by
  rw [packed_apply, dif_pos j.isLt, if_neg (by dsimp only; omega), dif_pos (by dsimp only; omega)]
  simp only [Nat.add_sub_cancel_left, Fin.eta]

/-- Row 255 of the packed weights is the sum of the biases. -/
theorem packed_bias (Wih : Vec Ideal S128x64 .f32) (Whh : Vec Ideal S128x128 .f32) (bi bh : Vec Ideal S128 .f32) (j : Fin 128) :
    packed Wih Whh bi bh (ix2 ⟨255, by omega⟩ ⟨j.val, by omega⟩) = bi (ix1 j) + bh (ix1 j) := by
  rw [packed_apply, dif_pos j.isLt, if_pos rfl]

/-- The kernel's step on the packed weights and a staged input is the cell. -/
theorem step_apply (Wih : Vec Ideal S128x64 .f32) (Whh : Vec Ideal S128x128 .f32) (bi bh : Vec Ideal S128 .f32) (h x : FVec Ideal S512x128 .f32)
    (X : Fin 512 → Fin 64 → EReal) (hx : Staged x X) (r : Fin 512) (j : Fin 128) :
    Block.step (F := Ideal) (packed Wih Whh bi bh) h x (ix2 r j) = cell Wih Whh bi bh X (fun r k => h (ix2 r k)) r j := by
  rw [step_split]
  unfold cell
  simp only [packed_hidden]
  rw [sum_ends (fun k : Fin 64 => X r k * Wih (ix2 j k)) (bi (ix1 j) + bh (ix1 j))
    (fun k : Fin 128 => x (ix2 r k) * packed Wih Whh bi bh (ix2 ⟨128 + k.val, by omega⟩ ⟨j.val, by omega⟩))]
  · congr 1; ac_rfl
  · intro k
    rw [hx, dif_pos k.isLt]
    exact congrArg (X r k * ·) (packed_input Wih Whh bi bh k j)
  · intro k h0 h1
    rw [hx, dif_neg (by omega), if_neg h1, zero_mul]
  · rw [hx, dif_neg (by simp), if_pos rfl, one_mul]
    exact packed_bias Wih Whh bi bh j

end Cert.KernelIdeal.Cell

end
-- ==== Proof.Staging.lean ====
/-
  THE STAGING SCRATCH at an entry: after a step's slab is put over it, it holds that step's inputs, the column of ones and zeros between.
-/
module

public import proofs.«01_k».proof.Proof.Cell

@[expose] public section

set_option maxRecDepth 16384

noncomputable section

namespace Cert.KernelIdeal.Cell

open Idealize Idealize.ShloMosaic
open Cert.KernelIdeal Cert.KernelIdeal.Gen

/-- Past the inputs' columns the staging scratch holds zeros and, in column 127, ones. -/
def Tail (g : FVec Ideal S512x128 .f32) : Prop :=
  ∀ (r : Fin 512) (k : Fin 128), 64 ≤ k.val → g (ix2 r k) = if k.val = 127 then 1 else 0

/-- A slab is the block's inputs of one step with the batch on the rows. -/
theorem slab_apply (x0 : Vec Ideal S64x64x512 .f32) (n : ℕ) (r : Fin 512) (k : Fin 64) :
    Block.slab (F := Ideal) x0 n (ix2 r k) = x0 (ix3 ⟨n % 64, by omega⟩ k r) := by
  pointwise [Block.slab, k0_pay5, VecWindow.window]
  refine congrArg x0 (funext fun a => Fin.ext ?_)
  match a with
  | ⟨0, _⟩ => show n % 64 + 1 * 0 = n % 64; omega
  | ⟨1, _⟩ => show 0 + 1 * k.val = k.val; omega
  | ⟨2, _⟩ => show 0 + 1 * r.val = r.val; omega

/-- A slab put over the scratch: in the inputs' columns the slab, elsewhere the scratch. -/
theorem over_apply (g : FVec Ideal S512x128 .f32) (x : FVec Ideal S512x64 .f32) (r : Fin 512) (k : Fin 128) :
    Block.over (F := Ideal) g x (ix2 r k) = if hk : k.val < 64 then x (ix2 r ⟨k.val, hk⟩) else g (ix2 r k) := by
  unfold Block.over VecWindow.put
  by_cases hk : k.val < 64
  · rw [dif_pos hk, dif_pos (fun a => match a with
      | ⟨0, _⟩ => ⟨Nat.zero_le _, by show r.val < 0 + 512; omega⟩
      | ⟨1, _⟩ => ⟨Nat.zero_le _, by show k.val < 0 + 64; omega⟩)]
    refine congrArg x (funext fun a => Fin.ext ?_)
    match a with
    | ⟨0, _⟩ => rfl
    | ⟨1, _⟩ => rfl
  · rw [dif_neg hk, dif_neg (fun h => hk (by have := (h 1).2; exact (Nat.zero_add 64 ▸ this : k.val < 64)))]

/-- The scratch as point 0 prepares it. -/
theorem tail_base : Tail Block.base0 := by
  intro r k h
  unfold Block.base0 VecWindow.put
  by_cases hk : k.val = 127
  · rw [if_pos hk, dif_pos (fun a => match a with
      | ⟨0, _⟩ => ⟨Nat.zero_le _, by show r.val < 0 + 512; omega⟩
      | ⟨1, _⟩ => ⟨by show 127 ≤ k.val; omega, by show k.val < 127 + 1; omega⟩)]
    pointwise [k0_pay3]
  · rw [if_neg hk, dif_neg (fun h => hk (by
      have h1 := (h 1).1
      have : 127 ≤ k.val := h1
      omega))]
    pointwise [k0_pay2]

/-- Putting a slab over the scratch leaves the rest of it. -/
theorem tail_over {g : FVec Ideal S512x128 .f32} (hg : Tail g) (x : FVec Ideal S512x64 .f32) : Tail (Block.over g x) := by
  intro r k h
  rw [over_apply, dif_neg (by omega), hg r k h]

/-- And what it leaves is a staged step. -/
theorem staged_over {g : FVec Ideal S512x128 .f32} (hg : Tail g) (x0 : Vec Ideal S64x64x512 .f32) (n : ℕ) :
    Staged (Block.over g (Block.slab x0 n)) (fun r k => x0 (ix3 ⟨n % 64, by omega⟩ k r)) := by
  intro r k
  rw [over_apply]
  by_cases hk : k.val < 64
  · rw [dif_pos hk, dif_pos hk, slab_apply]
  · rw [dif_neg hk, dif_neg hk, hg r k (by omega)]

end Cert.KernelIdeal.Cell

end
-- ==== Proof.Host.lean ====
/-
  THE LAUNCH'S ARRAYS as the host leaves them, and the block of each that a grid point is given.
-/
module

public import proofs.«01_k».proof.Proof.Pack

@[expose] public section

set_option maxRecDepth 16384

noncomputable section

namespace Cert.KernelIdeal.Host

open Idealize Idealize.ShloMosaic Idealize.ShloMosaic.TcCoe
open Cert.KernelIdeal Cert.KernelIdeal.Gen Cert.KernelIdeal.Pack

variable {F : FTy → Type} [FloatOps F]
variable (m : (ℓ : Loc nD τ sig) → Buf (Elt F) ℓ) (c : Dev nD)

/-- The inputs with time first and batch last. -/
theorem V_inputs : V m c main_v17 = transpose S2048x64x512 [0, 2, 1] (m ((c : Thread nD τ).loc main_arg0)) transposes_S2048x512x64_S2048x64x512_0_2_1 := by
  show StableHlo.after hostOps0 _ _ = _; after_results

/-- The packed weights. -/
theorem V_packed : V m c main_v15 = packed (m ((c : Thread nD τ).loc main_arg1)) (m ((c : Thread nD τ).loc main_arg2))
    (m ((c : Thread nD τ).loc main_arg3)) (m ((c : Thread nD τ).loc main_arg4)) := by
  show StableHlo.after hostOps0 _ _ = _; after_results; rfl

/-- The output bias as a 1 × 1 matrix. -/
theorem V_bias : V m c main_v16 = shapeCast S1x1 (m ((c : Thread nD τ).loc main_arg6)) shapeCasts_S1_S1x1 := by
  show StableHlo.after hostOps0 _ _ = _; after_results; rfl

/-- A grid point as a number. -/
theorem point_lt (t : Fin cfg0.N) : t.val < 32 := lt_of_lt_of_eq t.isLt N_0

/-- The inputs' block at point `t` starts at `(t, 0, 0)`. -/
theorem index0 (t : Fin cfg0.N) : win0_0.index t 0 = t.val ∧ win0_0.index t 1 = 0 ∧ win0_0.index t 2 = 0 := by
  have h : ∀ t : Fin grid0.N, win0_0.index t 0 = t.val ∧ win0_0.index t 1 = 0 ∧ win0_0.index t 2 = 0 := by decide +kernel
  exact h t

/-- The packed weights' block starts at the origin. -/
theorem index1 (t : Fin cfg0.N) : win0_1.index t 0 = 0 ∧ win0_1.index t 1 = 0 := by
  have h : ∀ t : Fin grid0.N, win0_1.index t 0 = 0 ∧ win0_1.index t 1 = 0 := by decide +kernel
  exact h t

/-- The output weights' block starts at the origin. -/
theorem index2 (t : Fin cfg0.N) : win0_2.index t 0 = 0 ∧ win0_2.index t 1 = 0 := by
  have h : ∀ t : Fin grid0.N, win0_2.index t 0 = 0 ∧ win0_2.index t 1 = 0 := by decide +kernel
  exact h t

/-- The output bias's block starts at the origin. -/
theorem index3 (t : Fin cfg0.N) : win0_3.index t 0 = 0 ∧ win0_3.index t 1 = 0 := by
  have h : ∀ t : Fin grid0.N, win0_3.index t 0 = 0 ∧ win0_3.index t 1 = 0 := by decide +kernel
  exact h t

/-- A point's input block holds 64 consecutive time steps. -/
theorem iblk0_apply (t : Fin cfg0.N) (s k : Fin 64) (b : Fin 512) :
    iblk m c 0 t (ix3 s k b)
      = m ((c : Thread nD τ).loc main_arg0) (ix3 ⟨64 * t.val + s.val, by have := point_lt t; omega⟩ b k) := by
  have e : ((cfg0.win 0).blk t).view.emb (ix3 s k b) = (ix3 ⟨64 * t.val + s.val, by have := point_lt t; omega⟩ k b : S2048x64x512.Idx) := by
    obtain ⟨h0, h1, h2⟩ := index0 t
    funext a; apply Fin.ext
    match a with
    | ⟨0, _⟩ => show win0_0.index t 0 * 64 + 1 * s.val = 64 * t.val + s.val; omega
    | ⟨1, _⟩ => show win0_0.index t 1 * 64 + 1 * k.val = k.val; omega
    | ⟨2, _⟩ => show win0_0.index t 2 * 512 + 1 * b.val = b.val; omega
  show V m c main_v17 (((cfg0.win 0).blk t).view.emb (ix3 s k b)) = _
  rw [e, V_inputs]
  pointwise

/-- Every point is given the whole packed matrix. -/
theorem iblk1_eq (t : Fin cfg0.N) : iblk m c 1 t = packed (m ((c : Thread nD τ).loc main_arg1)) (m ((c : Thread nD τ).loc main_arg2))
    (m ((c : Thread nD τ).loc main_arg3)) (m ((c : Thread nD τ).loc main_arg4)) := by
  rw [← V_packed]
  funext j
  have e : ((cfg0.win 1).blk t).view.emb j = j := by
    obtain ⟨h0, h1⟩ := index1 t
    funext a; apply Fin.ext
    match a with
    | ⟨0, _⟩ => show win0_1.index t 0 * 256 + 1 * (j 0).val = (j 0).val; omega
    | ⟨1, _⟩ => show win0_1.index t 1 * 256 + 1 * (j 1).val = (j 1).val; omega
  show V m c main_v15 (((cfg0.win 1).blk t).view.emb j) = V m c main_v15 j
  rw [e]

/-- Every point is given the whole row of output weights. -/
theorem iblk2_eq (t : Fin cfg0.N) : iblk m c 2 t = m ((c : Thread nD τ).loc main_arg5) := by
  rw [← V_main_arg5 m c]
  funext j
  have e : ((cfg0.win 2).blk t).view.emb j = j := by
    obtain ⟨h0, h1⟩ := index2 t
    funext a; apply Fin.ext
    match a with
    | ⟨0, _⟩ => show win0_2.index t 0 * 1 + 1 * (j 0).val = (j 0).val; omega
    | ⟨1, _⟩ => show win0_2.index t 1 * 128 + 1 * (j 1).val = (j 1).val; omega
  show V m c main_arg5 (((cfg0.win 2).blk t).view.emb j) = V m c main_arg5 j
  rw [e]

/-- Every point is given the output bias. -/
theorem iblk3_eq (t : Fin cfg0.N) : iblk m c 3 t = shapeCast S1x1 (m ((c : Thread nD τ).loc main_arg6)) shapeCasts_S1_S1x1 := by
  rw [← V_bias]
  funext j
  have e : ((cfg0.win 3).blk t).view.emb j = j := by
    obtain ⟨h0, h1⟩ := index3 t
    funext a; apply Fin.ext
    match a with
    | ⟨0, _⟩ => show win0_3.index t 0 * 1 + 1 * (j 0).val = (j 0).val; omega
    | ⟨1, _⟩ => show win0_3.index t 1 * 1 + 1 * (j 1).val = (j 1).val; omega
  show V m c main_v16 (((cfg0.win 3).blk t).view.emb j) = V m c main_v16 j
  rw [e]

end Cert.KernelIdeal.Host

end
-- ==== Proof.Fold.lean ====
/-
  THE KERNEL'S RESULT: over the 32 points the hidden state's scratch runs through the recurrence, 64 steps a point; the last point projects it.
-/
module

public import proofs.«01_k».proof.Proof.Staging
public import proofs.«01_k».proof.Proof.Host

@[expose] public section

set_option maxRecDepth 16384

noncomputable section

namespace Cert.KernelIdeal.Cell

open Idealize Idealize.ShloMosaic Idealize.ShloMosaic.TcCoe
open Cert.Rnn Cert.KernelIdeal Cert.KernelIdeal.Gen Cert.KernelIdeal.Value

variable (m : (ℓ : Loc nD τ sig) → Buf (Elt Ideal) ℓ) (c : Dev nD)

/-- The recurrence on the device's arguments. -/
def hidAt (t : ℕ) (r : Fin 512) (j : Fin 128) : EReal :=
  hid (m ((c : Thread nD τ).loc main_arg0)) (m ((c : Thread nD τ).loc main_arg1)) (m ((c : Thread nD τ).loc main_arg2))
    (m ((c : Thread nD τ).loc main_arg3)) (m ((c : Thread nD τ).loc main_arg4)) t r j

/-- One more step of the recurrence. -/
theorem hidAt_succ (t : ℕ) : hidAt m c (t + 1)
    = cell (m ((c : Thread nD τ).loc main_arg1)) (m ((c : Thread nD τ).loc main_arg2)) (m ((c : Thread nD τ).loc main_arg3)) (m ((c : Thread nD τ).loc main_arg4))
        (fun r k => m ((c : Thread nD τ).loc main_arg0) (ix3 ⟨t % 2048, by omega⟩ r k)) (hidAt m c t) := rfl

/-- One more step of a point. -/
theorem hidden_succ (W : FVec Ideal S256x256 .f32) (X : ℕ → FVec Ideal S512x128 .f32) (h : FVec Ideal S512x128 .f32) (n : ℕ) :
    Block.hidden W X h (n + 1) = Block.step W (Block.hidden W X h n) (X n) := rfl

/-- One point's steps carry the recurrence from step `64 t` on. -/
theorem steps_hid (t : Fin cfg0.N) (g h : FVec Ideal S512x128 .f32) (hg : Tail g) (hh : ∀ r j, h (ix2 r j) = hidAt m c (64 * t.val) r j) (n : ℕ) (hn : n ≤ 64) (r : Fin 512) (j : Fin 128) :
    Block.hidden (F := Ideal) (iblk m c 1 t) (fun n => Block.over g (Block.slab (iblk m c 0 t) n)) h n (ix2 r j) = hidAt m c (64 * t.val + n) r j := by
  induction n generalizing r j with
  | zero => exact hh r j
  | succ n ih =>
    have ht := Host.point_lt t
    have ih' : (fun r k => Block.hidden (F := Ideal) (iblk m c 1 t) (fun n => Block.over g (Block.slab (iblk m c 0 t) n)) h n (ix2 r k))
        = hidAt m c (64 * t.val + n) := funext fun r => funext fun k => ih (by omega) r k
    rw [hidden_succ, ← Nat.add_assoc, hidAt_succ, ← ih']
    generalize Block.hidden (F := Ideal) (iblk m c 1 t) (fun n => Block.over g (Block.slab (iblk m c 0 t) n)) h n = h'
    rw [Host.iblk1_eq, step_apply _ _ _ _ _ _ _ (staged_over hg (iblk m c 0 t) n)]
    refine congrArg (fun X => cell _ _ _ _ X _ r j) ?_
    · funext r k
      refine (Host.iblk0_apply m c t _ k r).trans (congrArg (fun s => m ((c : Thread nD τ).loc main_arg0) (ix3 s r k)) (Fin.ext ?_))
      show 64 * t.val + n % 64 = (64 * t.val + n) % 2048
      omega

/-- What the scratches hold after point `n`. -/
theorem outs_inv (n : ℕ) (hn : n < cfg0.N) (hl : n < 31) :
    Tail (outsAt0 m c n hn).2.1 ∧ ∀ r j, (outsAt0 m c n hn).2.2 (ix2 r j) = hidAt m c (64 * (n + 1)) r j := by
  induction n with
  | zero =>
    rw [outsAt0_zero, stAt0_A m c ⟨0, hn⟩ _ (by dsimp only) (by dsimp only; omega)]
    refine ⟨?_, fun r j => ?_⟩
    · rw [Block.sout_A_0]; exact tail_over tail_base _
    · rw [Block.sout_A_1]
      refine steps_hid m c ⟨0, hn⟩ _ _ tail_base (fun r j => ?_) 64 le_rfl r j
      pointwise [k0_pay4]; rfl
  | succ n ih =>
    obtain ⟨hg, hh⟩ := ih (by omega) (by omega)
    rw [outsAt0_succ, stAt0_B m c ⟨n + 1, hn⟩ _ (by dsimp only; omega) (by dsimp only; omega)]
    refine ⟨?_, fun r j => ?_⟩
    · rw [Block.sout_B_0]; exact tail_over hg _
    · rw [Block.sout_B_1]
      exact steps_hid m c ⟨n + 1, hn⟩ _ _ hg hh 64 le_rfl r j

/-- The projection at an entry. -/
theorem project_apply (h : FVec Ideal S512x128 .f32) (wout : Vec Ideal S1x128 .f32) (bout : Vec Ideal S1 .f32) (y : S512x1.Idx) :
    k0_pay1 (F := Ideal) h wout (shapeCast S1x1 bout shapeCasts_S1_S1x1) y = ∑ k : Fin 128, h (ix2 (y 0) k) * wout (ix2 0 k) + bout (ix1 0) := by
  pointwise [k0_pay1]

/-- The array the kernel leaves. -/
theorem G4_eq : G4 m c = result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) := by
  have hN : 31 < cfg0.N := lt_of_lt_of_eq (by decide) N_0.symm
  have h30 : 30 < cfg0.N := lt_of_lt_of_eq (by decide) N_0.symm
  obtain ⟨hg, hh⟩ := outs_inv m c 30 h30 (by decide)
  have last := steps_hid m c ⟨31, hN⟩ _ _ hg hh 64 le_rfl
  rw [show 64 * (⟨31, hN⟩ : Fin cfg0.N).val + 64 = 2048 from rfl] at last
  rw [G4_last, ← outsAt0_sweep m c 31 hN, outsAt0_succ m c 30 hN, stAt0_C m c ⟨31, hN⟩ _ (by dsimp only; omega) (by dsimp only)]
  dsimp only
  rw [Block.out_C_4]
  generalize Block.hidden (F := Ideal) _ _ _ 64 = h' at last ⊢
  funext y
  rw [Host.iblk2_eq, Host.iblk3_eq, project_apply]
  unfold result
  exact congrArg (· + _) (Finset.sum_congr rfl fun k _ => congrArg (· * _) (last (y 0) k))

end Cert.KernelIdeal.Cell

end
-- ==== Proof.Reference.lean ====
/-
  THE REFERENCE'S RESULT: its loop runs through the recurrence, one step a trip; the operations after it project the last hidden state.
-/
module

public import proofs.«01_k».proof.Proof.Gen.ReferenceIdeal.Run
public import proofs.«01_k».proof.Proof.Spec

@[expose] public section

set_option maxRecDepth 16384

noncomputable section

namespace Cert.ReferenceIdeal.Loop

open Idealize Idealize.ShloMosaic Idealize.ShloMosaic.TcCoe Idealize.ShloMosaic.StableHlo
open Cert.Rnn Cert.ReferenceIdeal Cert.ReferenceIdeal.Gen Cert.ReferenceIdeal.Value

/-- One trip's hidden state, of the arrays it reads and the counter. -/
def trip (xs : FVec Ideal S2048x512x64 .f32) (Wih : FVec Ideal S128x64 .f32) (Whh : FVec Ideal S128x128 .f32) (bi bh : FVec Ideal S128 .f32)
    (n : IVec S_ 32) (h : FVec Ideal S512x128 .f32) : FVec Ideal S512x128 .f32 :=
  Host.tanh (addf (addf (addf
    (Host.dotGeneral dot_S512x64_S64x128_S512x128_1_0_0_1_n_n none
      (shapeCast S512x64 (Host.dynamicSlice S1x512x64 xs
        (fun k => ((![n, constantI S_ 32 0#32, constantI S_ 32 0#32] : Fin 3 → IVec S_ 32) k (Shape.Idx.first h_S_)).toInt)
        sliceFits_S2048x512x64_S1x512x64) shapeCasts_S1x512x64_S512x64)
      (transpose S64x128 [1, 0] Wih transposes_S128x64_S64x128_1_0))
    (broadcastInDim S512x128 ![0, 1] bcast_S1x128_S512x128_0_1 (broadcastInDim S1x128 ![1] bcast_S128_S1x128_1 bi)))
    (Host.dotGeneral dot_S512x128_S128x128_S512x128_1_0_0_1_n_n none h (transpose S128x128 [1, 0] Whh transposes_S128x128_S128x128_1_0)))
    (broadcastInDim S512x128 ![0, 1] bcast_S1x128_S512x128_0_1 (broadcastInDim S1x128 ![1] bcast_S128_S1x128_1 bh)))

/-- The word of a trip's number, read as an integer. -/
theorem toInt_trip (n : ℕ) (hn : n < 2048) : (BitVec.ofNat 32 n).toInt = (n : Int) := by
  rw [BitVec.toInt_eq_toNat_of_lt (by rw [BitVec.toNat_ofNat]; omega), BitVec.toNat_ofNat]; omega

/-- Indices of the inputs agree coordinate by coordinate. -/
theorem ix3_congr {a a' : Fin 2048} {b b' : Fin 512} {k k' : Fin 64} (ha : a.val = a'.val) (hb : b.val = b'.val) (hk : k.val = k'.val) :
    ix3 a b k = ix3 a' b' k' := by
  rw [Fin.ext ha, Fin.ext hb, Fin.ext hk]

/-- The trip's slice starts at the trip's number, and at zero on the other axes. -/
theorem start_eq (ht : S1x512x64.rank = S2048x512x64.rank) (n : ℕ) (hn : n < 2048) (start : Fin 3 → Int) (h0 : start 0 = (n : Int)) (h1 : start 1 = 0) (h2 : start 2 = 0) :
    Host.clampedStart S2048x512x64 S1x512x64 ht start 0 = n ∧ Host.clampedStart S2048x512x64 S1x512x64 ht start 1 = 0
      ∧ Host.clampedStart S2048x512x64 S1x512x64 ht start 2 = 0 := by
  refine ⟨?_, ?_, ?_⟩ <;> unfold Host.clampedStart
  · rw [h0]
    show (min (max (n : Int) 0) ((2048 - 1 : ℕ) : Int)).toNat = n
    omega
  · rw [h1]; rfl
  · rw [h2]; rfl

/-- A trip is the recurrent cell at that trip's inputs. -/
theorem trip_apply (xs : FVec Ideal S2048x512x64 .f32) (Wih : FVec Ideal S128x64 .f32) (Whh : FVec Ideal S128x128 .f32) (bi bh : FVec Ideal S128 .f32)
    (n : ℕ) (hn : n < 2048) (h : FVec Ideal S512x128 .f32) (r : Fin 512) (j : Fin 128) :
    trip xs Wih Whh bi bh (fun _ => BitVec.ofNat 32 n) h (ix2 r j)
      = cell Wih Whh bi bh (fun r k => xs (ix3 ⟨n % 2048, by omega⟩ r k)) (fun r k => h (ix2 r k)) r j := by
  unfold cell
  pointwise [trip]
  obtain ⟨e0, e1, e2⟩ := start_eq rfl n hn
    (fun k => ((![fun _ => BitVec.ofNat 32 n, constantI S_ 32 0#32, constantI S_ 32 0#32] : Fin 3 → IVec S_ 32) k (Shape.Idx.first h_S_)).toInt)
    (toInt_trip n hn) rfl rfl
  congr 4
  refine Finset.sum_congr rfl fun k _ => congrArg (fun y => xs y * Wih (ix2 j k)) (ix3_congr ?_ ?_ ?_)
  · exact e0.trans (Nat.mod_eq_of_lt hn).symm
  · exact (congrArg (· + r.val) e1).trans (Nat.zero_add _)
  · exact (congrArg (· + k.val) e2).trans (Nat.zero_add _)

variable (m : (ℓ : Loc nD τ sig) → Buf (Elt Ideal) ℓ) (c : Dev nD)

/-! ## The loop's buffers where it starts -/

/-- At the start: the inputs. -/
theorem entry_xs : entryContents preI m c (Proc.devRef .tc main_v1_0) = m ((c.tc : Thread nD τ).loc main_arg0) := by
  simp only [entryContents, afterL_cons, afterL_nil]; after_reads_simp; rfl

/-- At the start: the input weights. -/
theorem entry_Wih : entryContents preI m c (Proc.devRef .tc main_v1_1) = m ((c.tc : Thread nD τ).loc main_arg1) := by
  simp only [entryContents, afterL_cons, afterL_nil]; after_reads_simp; rfl

/-- At the start: the input bias. -/
theorem entry_bi : entryContents preI m c (Proc.devRef .tc main_v1_2) = m ((c.tc : Thread nD τ).loc main_arg3) := by
  simp only [entryContents, afterL_cons, afterL_nil]; after_reads_simp; rfl

/-- At the start: the hidden weights. -/
theorem entry_Whh : entryContents preI m c (Proc.devRef .tc main_v1_3) = m ((c.tc : Thread nD τ).loc main_arg2) := by
  simp only [entryContents, afterL_cons, afterL_nil]; after_reads_simp; rfl

/-- At the start: the hidden bias. -/
theorem entry_bh : entryContents preI m c (Proc.devRef .tc main_v1_4) = m ((c.tc : Thread nD τ).loc main_arg4) := by
  simp only [entryContents, afterL_cons, afterL_nil]; after_reads_simp; rfl

/-- At the start: a zero hidden state. -/
theorem entry_hidden (r : Fin 512) (j : Fin 128) :
    (entryContents preI m c (Proc.devRef .tc main_v1_6) : FVec Ideal S512x128 .f32) (ix2 r j) = (0 : EReal) := by
  have e : entryContents preI m c (Proc.devRef .tc main_v1_6)
      = (broadcastInDim S512x128 ![] bcast_S_S512x128 (constant S_ .f32 0x00000000#32) : FVec Ideal S512x128 .f32) := by
    simp only [entryContents, afterL_cons, afterL_nil]; after_reads_simp; rfl
  rw [e]; pointwise

/-! ## The loop -/

/-- A trip of the loop on its buffers. -/
theorem step_eq (V0 : Valuation τ sig (Elt Ideal)) : step_main_v1_6 V0
    = trip (V0 (Proc.devRef .tc main_v1_0)) (V0 (Proc.devRef .tc main_v1_1)) (V0 (Proc.devRef .tc main_v1_3)) (V0 (Proc.devRef .tc main_v1_2)) (V0 (Proc.devRef .tc main_v1_4))
      (V0 (Proc.devRef .tc main_v1_5)) (V0 (Proc.devRef .tc main_v1_6)) := rfl

/-- The loop's buffers after `k` trips of device `c`: the arguments as they were, the counter at `k`, the recurrence's `k`-th hidden state. -/
structure After (k : ℕ) (V0 : Valuation τ sig (Elt Ideal)) : Prop where
  xs : V0 (Proc.devRef .tc main_v1_0) = m ((c.tc : Thread nD τ).loc main_arg0)
  Wih : V0 (Proc.devRef .tc main_v1_1) = m ((c.tc : Thread nD τ).loc main_arg1)
  bi : V0 (Proc.devRef .tc main_v1_2) = m ((c.tc : Thread nD τ).loc main_arg3)
  Whh : V0 (Proc.devRef .tc main_v1_3) = m ((c.tc : Thread nD τ).loc main_arg2)
  bh : V0 (Proc.devRef .tc main_v1_4) = m ((c.tc : Thread nD τ).loc main_arg4)
  counter : V0 (Proc.devRef .tc main_v1_5) = fun _ => BitVec.ofNat 32 k
  hidden : ∀ (r : Fin 512) (j : Fin 128), (V0 (Proc.devRef .tc main_v1_6) : FVec Ideal S512x128 .f32) (ix2 r j)
    = hid (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) k r j

/-- One trip more. -/
theorem after_step (k : ℕ) (hk : k < 2048) (V0 : Valuation τ sig (Elt Ideal)) (h : After m c k V0) : After m c (k + 1) (STEP V0) where
  xs := (STEP_main_v1_0 V0).trans h.xs
  Wih := (STEP_main_v1_1 V0).trans h.Wih
  bi := (STEP_main_v1_2 V0).trans h.bi
  Whh := (STEP_main_v1_3 V0).trans h.Whh
  bh := (STEP_main_v1_4 V0).trans h.bh
  counter := by
    rw [STEP_main_v1_5]
    unfold step_main_v1_5
    rw [h.counter]
    funext y
    exact (BitVec.ofNat_add (n := 32) k 1).symm
  hidden r j := by
    rw [STEP_main_v1_6, step_eq, h.xs, h.Wih, h.bi, h.Whh, h.bh, h.counter]
    refine (trip_apply _ _ _ _ _ k hk _ r j).trans ?_
    have e : (fun (r : Fin 512) (j : Fin 128) => (V0 (Proc.devRef .tc main_v1_6) : FVec Ideal S512x128 .f32) (ix2 r j)) = _ :=
      funext fun r => funext fun j => h.hidden r j
    exact congrArg (fun H => cell _ _ _ _ _ H r j) e

/-- After any number of trips the loop makes. -/
theorem after_iter (k : ℕ) (hk : k ≤ 2048) : After m c k (STEP^[k] (entryContents preI m c)) := by
  induction k with
  | zero =>
    exact ⟨entry_xs m c, entry_Wih m c, entry_bi m c, entry_Whh m c, entry_bh m c, ctr_entry m c, entry_hidden m c⟩
  | succ k ih =>
    rw [Function.iterate_succ_apply']
    exact after_step m c k (by omega) _ (ih (by omega))

/-- The operations after the loop, of the arrays they read. -/
def project (h : FVec Ideal S512x128 .f32) (wout : FVec Ideal S1x128 .f32) (bout : FVec Ideal S1 .f32) : FVec Ideal S512x1 .f32 :=
  addf (Host.dotGeneral dot_S512x128_S128x1_S512x1_1_0_0_1_n_n none h (transpose S128x1 [1, 0] wout transposes_S1x128_S128x1_1_0))
    (broadcastInDim S512x1 ![0, 1] bcast_S1x1_S512x1_0_1 (broadcastInDim S1x1 ![1] bcast_S1_S1x1_1 bout))

/-- The projection at an entry. -/
theorem project_apply (h : FVec Ideal S512x128 .f32) (wout : FVec Ideal S1x128 .f32) (bout : FVec Ideal S1 .f32) (y : S512x1.Idx) :
    project h wout bout y = ∑ k : Fin 128, h (ix2 (y 0) k) * wout (ix2 0 k) + bout (ix1 0) := by
  pointwise [project]

/-- The array the reference leaves. -/
theorem out_eq : out_main_v6 (STEP^[2048] (entryContents preI m c))
    = result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6)) := by
  have h := (after_iter m c 2048 le_rfl).hidden
  have h5 := iter_main_arg5 m c 2048
  have h6 := iter_main_arg6 m c 2048
  generalize STEP^[2048] (entryContents preI m c) = V0 at h h5 h6 ⊢
  show project (V0 (Proc.devRef .tc main_v1_6)) (V0 (Proc.devRef .tc main_arg5)) (V0 (Proc.devRef .tc main_arg6)) = _
  rw [h5, h6]
  funext y
  rw [project_apply]
  unfold result
  exact congrArg (· + _) (Finset.sum_congr rfl fun k _ => congrArg (· * _) (h (y 0) k))

end Cert.ReferenceIdeal.Loop

end
-- ==== Proof.lean ====
/-
  The proof of `Cert.Claim`. The frames are the generated ones. For the value claim both programs are shown to leave `Rnn.result`
  of their arguments: the kernel by `Proof/Fold.lean`, the reference by `Proof/Reference.lean`.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Fold
public import proofs.«01_k».proof.Proof.Reference

@[expose] public section

noncomputable section

namespace Cert.Proof

open Idealize.ShloMosaic Idealize.SL.Sem

/-- The reference terminates, leaves its arguments unchanged and its counters at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments the kernel and the reference leave equal results over the extended reals. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3, e4, e5, e6⟩ := hagree c
  refine ((h c).1.trans (Cert.ReferenceIdeal.Loop.out_eq m' c)).trans ?_
  rw [e0, e1, e2, e3, e4, e5, e6]
  exact (Cert.KernelIdeal.Cell.G4_eq m c).symm

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
